-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x32x32 : Shape := ⟨4, ![16, 256, 32, 32]⟩
abbrev S1024x256 : Shape := ⟨2, ![1024, 256]⟩
abbrev S_ : Shape := ⟨0, ![]⟩

class Facts : Prop where
  bcast_S_S16x256x32x32 : S_.BroadcastsInDim S16x256x32x32 (![] : Fin 0 → Fin S16x256x32x32.rank)
  bcast_S_S1024x256 : S_.BroadcastsInDim S1024x256 (![] : Fin 0 → Fin S1024x256.rank)

variable [Facts]

def fn {F : FTy → Type} [FloatOps F] (main_arg0 : FVec F S16x256x32x32 .f32) (main_arg1 : FVec F S1024x256 .f32) : IVec S16x256x32x32 1 × IVec S1024x256 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S16x256x32x32 : Shape := ⟨4, ![16, 256, 32, 32]⟩
abbrev S1024x256 : Shape := ⟨2, ![1024, 256]⟩
abbrev S16x256x1024 : Shape := ⟨3, ![16, 256, 1024]⟩
abbrev S_ : Shape := ⟨0, ![]⟩
abbrev S16x1x1024 : Shape := ⟨3, ![16, 1, 1024]⟩
abbrev S1x1 : Shape := ⟨2, ![1, 1]⟩
abbrev S2x256x1024 : Shape := ⟨3, ![2, 256, 1024]⟩
abbrev S2x1x1024 : Shape := ⟨3, ![2, 1, 1024]⟩
abbrev S1024 : Shape := ⟨1, ![1024]⟩
abbrev S1024x1 : Shape := ⟨2, ![1024, 1]⟩
abbrev S1x256x1024 : Shape := ⟨3, ![1, 256, 1024]⟩
abbrev S256x1024 : Shape := ⟨2, ![256, 1024]⟩
abbrev S1024x1024 : Shape := ⟨2, ![1024, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S16384 : Shape := ⟨1, ![16384]⟩

abbrev nBuf : Space → Nat
  | .hbm => 14
  | .vmem => 9
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S16x256x1024, .f32⟩
  | .hbm, ⟨7, _⟩ => ⟨S16x1x1024, .i32⟩
  | .hbm, ⟨8, _⟩ => ⟨S1x1, .f32⟩
  | .hbm, ⟨9, _⟩ => ⟨S16x256x32x32, .f32⟩
  | .hbm, ⟨10, _⟩ => ⟨S16384, .i32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2x256x1024, .f32⟩
  | .local _ .vmem, ⟨1, _⟩ => ⟨S2x256x1024, .f32⟩
  | .local _ .vmem, ⟨2, _⟩ => ⟨S1024x256, .f32⟩
  | .local _ .vmem, ⟨3, _⟩ => ⟨S1024x256, .f32⟩
  | .local _ .vmem, ⟨4, _⟩ => ⟨S2x256x1024, .f32⟩
  | .local _ .vmem, ⟨5, _⟩ => ⟨S2x256x1024, .f32⟩
  | .local _ .vmem, ⟨6, _⟩ => ⟨S2x1x1024, .i32⟩
  | .local _ .vmem, ⟨7, _⟩ => ⟨S2x1x1024, .i32⟩
  | .local _ .vmem, ⟨8, _⟩ => ⟨S1x1, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x256x32x32 : Shape := ⟨4, ![16, 256, 32, 32]⟩
abbrev S1024x256 : Shape := ⟨2, ![1024, 256]⟩
abbrev S16x32x32x256 : Shape := ⟨4, ![16, 32, 32, 256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x32x32x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S256x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x256, .f32⟩
  | .hbm, ⟨45, _⟩ => ⟨S16384x256, .i1⟩
  | .hbm, ⟨46, _⟩ => ⟨S_, .f32⟩
  | .hbm, ⟨47, _⟩ => ⟨S16384x256, .f32⟩
  | .hbm, ⟨48, _⟩ => ⟨S16384x256, .f32⟩
  | .hbm, ⟨49, _⟩ => ⟨S16x32x32x256, .f32⟩
  | .hbm, ⟨50, _⟩ => ⟨S16x32x32x256, .f32⟩
  | .hbm, ⟨51, _⟩ => ⟨S16x32x32x256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x32x32x256, .f32⟩
  | .hbm, ⟨59, _⟩ => ⟨S16x32x32x256, .f32⟩
  | .hbm, ⟨60, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Spec.lean ====
/-
  The mathematics of nearest-code quantisation, with no program in it.

  A row is 256 extended reals, a codebook 1024 rows. `sqDist` is the expanded squared distance of a row to a code
  and `code` the first code at which a table of 1024 distances is least. The file shows: three ways of searching for
  that code (a minimum followed by an integer minimum, and a pairwise arg-min) find it; and over finite values the
  expanded distance is the reference's spelling of it and the sum of the squared differences.
-/
module

public import Idealize.ShloMosaic.Lib.Pointwise

@[expose] public section

noncomputable section

namespace Cert.Vq

open Idealize.ShloMosaic

/-! ## The least code -/

/-- The codes at which `d` is least. -/
def minimisers (d : Fin 1024 → EReal) : Finset (Fin 1024) := Finset.univ.filter fun k => ∀ l, d k ≤ d l

/-- Some code is a minimiser. -/
theorem minimisers_nonempty (d : Fin 1024 → EReal) : (minimisers d).Nonempty := by
  obtain ⟨k, -, hk⟩ := Finset.exists_min_image (Finset.univ : Finset (Fin 1024)) d ⟨0, Finset.mem_univ _⟩
  exact ⟨k, Finset.mem_filter.2 ⟨Finset.mem_univ _, fun l => hk l (Finset.mem_univ _)⟩⟩

/-- The first code at which `d` is least. -/
def code (d : Fin 1024 → EReal) : Fin 1024 := (minimisers d).min' (minimisers_nonempty d)

/-- At `code d` the table is least. -/
theorem code_le (d : Fin 1024 → EReal) (l : Fin 1024) : d (code d) ≤ d l :=
  (Finset.mem_filter.1 ((minimisers d).min'_mem (minimisers_nonempty d))).2 l

/-- A code whose entry is no more than the least one does not come before `code d`. -/
theorem code_first (d : Fin 1024 → EReal) {k : Fin 1024} (hk : d k ≤ d (code d)) : code d ≤ k :=
  (minimisers d).min'_le k (Finset.mem_filter.2 ⟨Finset.mem_univ _, fun l => hk.trans (code_le d l)⟩)

/-- The minimum of the table, searched from +∞, is its entry at `code d`. -/
theorem fold_min_eq (d : Fin 1024 → EReal) : (Finset.univ.fold min ⊤ d) = d (code d) := by
  apply le_antisymm
  · exact (Finset.fold_min_le _).2 (Or.inr ⟨code d, Finset.mem_univ _, le_rfl⟩)
  · exact (Finset.le_fold_min _).2 ⟨le_top, fun k _ => code_le d k⟩

/-! ## The code as a 32-bit word -/

/-- A code as the word the programs hold. -/
def word (k : Fin 1024) : BitVec 32 := BitVec.ofNat 32 k.val

/-- A code's number, as a word, reads back as the number. -/
theorem word_toInt (k : Fin 1024) : (word k).toInt = k.val := by
  have := k.isLt
  rw [word, BitVec.toInt_eq_toNat_of_lt, BitVec.toNat_ofNat, Nat.mod_eq_of_lt (by omega)]
  rw [BitVec.toNat_ofNat, Nat.mod_eq_of_lt (by omega)]; omega

/-- Different codes have different words. -/
theorem word_inj {k l : Fin 1024} : word k = word l ↔ k = l := by
  refine ⟨fun h => Fin.ext ?_, fun h => by rw [h]⟩
  have := congrArg BitVec.toInt h
  rw [word_toInt, word_toInt] at this
  exact_mod_cast this

/-- The signed minimum, read as an integer. -/
theorem toInt_minsi (x y : BitVec 32) : (IntOp.minsi x y).toInt = min x.toInt y.toInt := by
  simp only [IntOp.minsi, BitVec.slt, decide_eq_true_eq]
  split_ifs <;> omega

/-- A signed minimum over a set of words, read as an integer. -/
theorem toInt_fold_minsi (s : Finset (Fin 1024)) (b : BitVec 32) (f : Fin 1024 → BitVec 32) :
    (s.fold IntOp.minsi b f).toInt = s.fold min b.toInt fun k => (f k).toInt :=
  (Finset.fold_hom (op := IntOp.minsi) (op' := min) (m := BitVec.toInt) toInt_minsi).symm

/-- The integer search: the least of the codes whose entry equals the minimum, other codes standing at 2³⁰. -/
theorem fold_minsi_eq (d : Fin 1024 → EReal) :
    (Finset.univ.fold IntOp.minsi 2147483647#32 fun k => if d k = d (code d) then word k else 1073741824#32)
      = word (code d) := by
  apply BitVec.eq_of_toInt_eq
  rw [toInt_fold_minsi, word_toInt]
  have hlt := (code d).isLt
  apply le_antisymm
  · refine (Finset.fold_min_le _).2 (Or.inr ⟨code d, Finset.mem_univ _, ?_⟩)
    simp [word_toInt]
  · refine (Finset.le_fold_min _).2 ⟨by
      have : (2147483647#32).toInt = 2147483647 := by decide
      omega, fun k _ => ?_⟩
    by_cases h : d k = d (code d)
    · simpa [h, word_toInt] using code_first d h.le
    · have : (1073741824#32).toInt = 1073741824 := by decide
      simp only [h, if_false, this]
      omega

/-! ## The pairwise arg-min -/

/-- A value and its index, ordered by the value first. -/
def key (p : EReal × BitVec 32) : EReal ×ₗ ℤ := toLex (p.1, p.2.toInt)

/-- An entry is determined by its key. -/
theorem key_inj {p q : EReal × BitVec 32} (h : key p = key q) : p = q := by
  have h' := toLex_inj.1 h
  exact Prod.ext (Prod.mk.inj h').1 (BitVec.eq_of_toInt_eq (Prod.mk.inj h').2)

/-- A fold that keeps the smaller key ends with the smallest key among the start and the entries, and at one of them. -/
theorem key_foldl {rd : EReal × BitVec 32 → EReal × BitVec 32 → EReal × BitVec 32}
    (hrd : ∀ a b, key (rd a b) = min (key a) (key b)) (l : List (EReal × BitVec 32)) (i : EReal × BitVec 32) :
    key (l.foldl rd i) ≤ key i ∧ (∀ p ∈ l, key (l.foldl rd i) ≤ key p)
      ∧ (key (l.foldl rd i) = key i ∨ ∃ p ∈ l, key (l.foldl rd i) = key p) := by
  induction l generalizing i with
  | nil => simp
  | cons a l ih =>
    obtain ⟨h1, h2, h3⟩ := ih (rd i a)
    rw [hrd] at h1 h3
    rw [List.foldl_cons]
    refine ⟨h1.trans (min_le_left _ _), ?_, ?_⟩
    · intro p hp
      rcases List.mem_cons.1 hp with rfl | hp
      · exact h1.trans (min_le_right _ _)
      · exact h2 p hp
    · rcases h3 with h3 | ⟨p, hp, h3⟩
      · rcases min_choice (key i) (key a) with h | h
        · exact Or.inl (h3.trans h)
        · exact Or.inr ⟨a, List.mem_cons_self, h3.trans h⟩
      · exact Or.inr ⟨p, List.mem_cons_of_mem _ hp, h3⟩

/-- The pairwise search from (+∞, 0) over the pairs (entry, code), in any order, ends on the first least code,
    no entry being +∞. -/
theorem foldl_argmin_eq {rd : EReal × BitVec 32 → EReal × BitVec 32 → EReal × BitVec 32}
    (hrd : ∀ a b, key (rd a b) = min (key a) (key b)) (d : Fin 1024 → EReal) (hd : ∀ k, d k < ⊤)
    (l : List (EReal × BitVec 32)) (hl : ∀ p, p ∈ l ↔ ∃ k, p = (d k, word k)) :
    l.foldl rd (⊤, 0#32) = (d (code d), word (code d)) := by
  obtain ⟨-, h2, h3⟩ := key_foldl hrd l (⊤, 0#32)
  have hc := h2 _ ((hl _).2 ⟨code d, rfl⟩)
  have hfst : ∀ {p q : EReal × BitVec 32}, key p ≤ key q → p.1 < q.1 ∨ (p.1 = q.1 ∧ p.2.toInt ≤ q.2.toInt) :=
    fun h => (Prod.Lex.toLex_le_toLex).1 h
  rcases h3 with h3 | ⟨p, hp, h3⟩
  · rw [h3] at hc
    have := hd (code d)
    rcases hfst hc with h | ⟨h, -⟩
    · exact absurd h (not_lt.2 le_top)
    · exact absurd h.symm this.ne
  · obtain ⟨k, rfl⟩ := (hl p).1 hp
    rw [h3] at hc
    have hk : code d = k := by
      rcases hfst hc with h | ⟨h, h'⟩
      · exact absurd h (not_lt.2 (code_le d k))
      · have h' : (word k).toInt ≤ (word (code d)).toInt := h'
        rw [word_toInt, word_toInt] at h'
        exact le_antisymm (code_first d (le_of_eq h)) (by exact_mod_cast h')
    rw [key_inj h3, hk]

/-! ## Sums of finite values -/

/-- A finite sum of reals, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The distance -/

/-- The expanded squared distance of the row `x` to the code `k`: ‖x‖² + ‖e_k‖² + ⟨−2·e_k, x⟩. -/
def sqDist (x : Fin 256 → EReal) (e : Fin 1024 → Fin 256 → EReal) (k : Fin 1024) : EReal :=
  (∑ c, x c * x c + ∑ c, e k c * e k c) + ∑ c, (-2 * e k c) * x c

section Finite
variable (x : Fin 256 → ℝ) (e : Fin 1024 → Fin 256 → ℝ) (k : Fin 1024)

/-- Over finite values the distance is the real number ‖e_k − x‖². -/
theorem sqDist_coe : sqDist (fun c => x c) (fun k c => e k c) k = ((∑ c, (e k c - x c) * (e k c - x c) : ℝ) : EReal) := by
  have h2 : (-2 : EReal) = ((-2 : ℝ) : EReal) := rfl
  simp only [sqDist, h2, ← EReal.coe_mul, coe_sum, ← EReal.coe_add]
  rw [← Finset.sum_add_distrib, ← Finset.sum_add_distrib]
  congr 1
  exact Finset.sum_congr rfl fun c _ => by ring

/-- Over finite values the distance is also ‖x‖² + ‖e_k‖² − 2·⟨x, e_k⟩. -/
theorem sqDist_coe_sub : sqDist (fun c => x c) (fun k c => e k c) k
    = (∑ c, (x c : EReal) * x c + ∑ c, (e k c : EReal) * e k c) - 2 * ∑ c, (x c : EReal) * e k c := by
  have h2 : (2 : EReal) = ((2 : ℝ) : EReal) := rfl
  rw [sqDist_coe]
  simp only [h2, ← EReal.coe_mul, coe_sum, ← EReal.coe_add, ← EReal.coe_sub]
  rw [Finset.mul_sum, ← Finset.sum_add_distrib, ← Finset.sum_sub_distrib]
  congr 1
  exact Finset.sum_congr rfl fun c _ => by ring

end Finite

end Cert.Vq

end
-- ==== Proof.KernelBlock.lean ====
/-
  What the kernel computes from one image's block: its payloads read at an index.

  `z` is one image (256 channels by 1024 positions), `e` the codebook, `s` the codebook scaled by −2. The table of
  distances stands codes by positions; for each position the kernel takes the least distance, the first code at it,
  and the row of the codebook at that code by a product with a one-hot table.
-/
module

public import proofs.«01_k».proof.Proof.Gen.KernelIdeal.Skeleton
public import proofs.«01_k».proof.Proof.Spec

@[expose] public section

set_option maxRecDepth 16384

noncomputable section

namespace Cert.KernelIdeal.Block

open Cert.KernelIdeal Cert.KernelIdeal.Gen Cert.Vq Idealize.ShloMosaic

/-- The codebook as 1024 rows. -/
abbrev rows (e : Vec Ideal S1024x256 .f32) : Fin 1024 → Fin 256 → EReal := fun k c => e (ix2 k c)

/-- The distances of position `p` of an image to the codes. -/
abbrev dists (e : Vec Ideal S1024x256 .f32) (z : Vec Ideal S1x256x1024 .f32) (p : Fin 1024) : Fin 1024 → EReal :=
  sqDist (fun c => z (ix3 0 c p)) (rows e)

section Payloads
variable (e s : Vec Ideal S1024x256 .f32) (hs : ∀ k c, s (ix2 k c) = -2 * e (ix2 k c)) (z : Vec Ideal S1x256x1024 .f32)
include hs

/-- The table of distances. -/
theorem pay6_at (k p : Fin 1024) : k0_pay6 e s z (ix2 k p) = dists e z p k := by
  pointwise [k0_pay6, k0_pay3, k0_pay4]
  simp only [sqDist, hs]

/-- The least distance of each position. -/
theorem pay7_at (p : Fin 1024) : k0_pay7 e s z (ix2 0 p) = dists e z p (code (dists e z p)) := by
  pointwise [k0_pay7]
  have htop : Ideal.ofBits FTy.f32 2139095040#32 = ⊤ := by simp [Ideal.ofBits, Ideal.ieee]
  simp only [pay6_at e s hs, htop]
  exact fold_min_eq _

/-- The first code at that distance. -/
theorem pay8_at (p : Fin 1024) : k0_pay8 e s z (ix1 p) = word (code (dists e z p)) := by
  pointwise [k0_pay8]
  simp only [pay6_at e s hs, pay7_at e s hs]
  exact fold_minsi_eq _

/-- The same, as the block of indices stored. -/
theorem pay9_at (p : Fin 1024) : k0_pay9 e s z (ix3 0 0 p) = word (code (dists e z p)) := by
  pointwise [k0_pay9]
  exact pay8_at e s hs z p

/-- The product of the codebook with the one-hot table is the chosen row of the codebook. -/
theorem pay10_at (c : Fin 256) (p : Fin 1024) : k0_pay10 e s z (ix3 0 c p) = e (ix2 (code (dists e z p)) c) := by
  have hot : ∀ k : Fin 1024, FloatOps.sitofp (F := Ideal) .f32
      (BitVec.setWidth 32 (IntOp.cmpi .eq (BitVec.ofNat 32 k.val) (word (code (dists e z p)))))
      = if k = code (dists e z p) then 1 else 0 := fun k => by
    change FloatOps.sitofp (F := Ideal) .f32 (BitVec.setWidth 32 (IntOp.cmpi .eq (word k) _)) = _
    by_cases h : k = code (dists e z p)
    · simp [h, IntOp.cmpi, FloatOps.sitofp]
    · have hw : (word k == word (code (dists e z p))) = false := beq_eq_false_iff_ne.2 (mt word_inj.1 h)
      simp [h, IntOp.cmpi, FloatOps.sitofp, hw]
  pointwise [k0_pay10]
  rw [pay8_at e s hs]
  simp only [hot, mul_ite, mul_one, mul_zero]
  rw [Finset.sum_ite_eq' Finset.univ, if_pos (Finset.mem_univ _)]

omit hs in
/-- A row of values summed and added to a running value. -/
theorem pay11_sum (a : FVec Ideal S1x1 .f32) (v : FVec Ideal S1x1024 .f32) :
    k0_pay11 a v (ix2 0 0) = a (ix2 0 0) + ∑ p : Fin 1024, v (ix2 0 p) := by
  pointwise [k0_pay11]
  rw [Fin.sum_univ_one]

/-- The first image's least distances added to a running value. -/
theorem pay11_at (a : FVec Ideal S1x1 .f32) :
    k0_pay11 a (k0_pay7 e s z) (ix2 0 0) = a (ix2 0 0) + ∑ p, dists e z p (code (dists e z p)) := by
  rw [pay11_sum]
  exact congrArg _ (Finset.sum_congr rfl fun p _ => pay7_at e s hs z p)

omit hs in
/-- The second image of a block goes through the same table as the first, -/
theorem pay12_eq : k0_pay12 (k0_pay3 s) (k0_pay4 e) z = k0_pay6 e s z := by
  unfold k0_pay12 k0_pay6; rfl

omit hs in
/-- with the same least distances, -/
theorem pay13_eq : k0_pay13 (k0_pay3 s) (k0_pay4 e) z = k0_pay7 e s z := by
  unfold k0_pay13 k0_pay7; rw [pay12_eq]

omit hs in
/-- the same first codes, -/
theorem pay14_eq : k0_pay14 (k0_pay3 s) (k0_pay4 e) z = k0_pay8 e s z := by
  unfold k0_pay14 k0_pay8; rw [pay12_eq, pay13_eq]

omit hs in
/-- the same block of indices, -/
theorem pay15_eq : k0_pay15 (k0_pay3 s) (k0_pay4 e) z = k0_pay9 e s z := by
  unfold k0_pay15 k0_pay9; rw [pay14_eq]

omit hs in
/-- and the same one-hot product. -/
theorem pay16_eq : k0_pay16 e (k0_pay3 s) (k0_pay4 e) z = k0_pay10 e s z := by
  unfold k0_pay16 k0_pay10; rw [pay14_eq]

/-- The second image's least distances summed. -/
theorem pay17_eq : k0_pay17 (k0_pay3 s) (k0_pay4 e) z = ∑ p, dists e z p (code (dists e z p)) := by
  have hsum : k0_pay17 (k0_pay3 s) (k0_pay4 e) z = ∑ p : Fin 1024, k0_pay13 (k0_pay3 s) (k0_pay4 e) z (ix2 0 p) := by
    generalize k0_pay3 s = s', k0_pay4 e = e'
    pointwise [k0_pay17]
    rw [Fin.sum_univ_one]
  rw [hsum, pay13_eq]
  exact Finset.sum_congr rfl fun p _ => pay7_at e s hs z p

end Payloads

end Cert.KernelIdeal.Block

end
-- ==== Proof.Consts.lean ====
/-
  The programs' float literals, as the numbers they denote.
-/
module

public import Idealize.ShloMosaic.Lib.Pointwise

@[expose] public section

noncomputable section

namespace Cert.Vq

open Idealize.ShloMosaic

/-- −2. -/
theorem bits_neg_two : Ideal.ofBits .f32 0xC0000000#32 = ((-2 : ℝ) : EReal) := by
  simp [Ideal.ofBits, Ideal.ieee]
  rw [← EReal.coe_mul]; norm_num

/-- 2. -/
theorem bits_two : Ideal.ofBits .f32 0x40000000#32 = ((2 : ℝ) : EReal) := by
  simp [Ideal.ofBits, Ideal.ieee]
  rw [← EReal.coe_mul]; norm_num

/-- A quarter. -/
theorem bits_quarter : Ideal.ofBits .f32 0x3E800000#32 = ((1 / 4 : ℝ) : EReal) := by
  simp [Ideal.ofBits, Ideal.ieee]
  rw [← EReal.coe_mul]; norm_num

/-- The number of entries of the input, 2²². -/
theorem bits_count : Ideal.ofBits .f32 0x4A800000#32 = ((4194304 : ℝ) : EReal) := by
  simp [Ideal.ofBits, Ideal.ieee]
  rw [← EReal.coe_mul]; norm_num

/-- The kernel's scale of the loss, 2⁻²⁴. -/
theorem bits_scale : Ideal.ofBits .f32 0x33800000#32 = ((1 / 16777216 : ℝ) : EReal) := by
  simp [Ideal.ofBits, Ideal.ieee]
  rw [← EReal.coe_mul]; norm_num

/-- +∞. -/
theorem bits_top : Ideal.ofBits .f32 0x7F800000#32 = ⊤ := by simp [Ideal.ofBits, Ideal.ieee]

end Cert.Vq

end
-- ==== Proof.KernelValue.lean ====
/-
  What the kernel's three output arrays hold when its pipeline ends.

  Grid point `t` works on images `2·t` and `2·t + 1`. The first output array holds, for each image, channel and
  position, that channel of the nearest code; the second the code's number; the third, accumulated over the eight
  points, the sum of all the least distances.
-/
module

public import proofs.«01_k».proof.Proof.Gen.KernelIdeal.Frame
public import proofs.«01_k».proof.Proof.KernelBlock
public import proofs.«01_k».proof.Proof.Consts
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Cert.KernelIdeal.Block Cert.Vq Idealize.ShloMosaic Idealize.ShloMosaic.TcCoe Idealize.SL.Sem Idealize.ShloMosaic.StableHlo

/-! ## The arrays' contents as functions of the flattened images and the codebook -/

section Arrays
variable (Z : Vec Ideal S16x256x1024 .f32) (E : Vec Ideal S1024x256 .f32)

/-- The distances of position `p` of image `b` to the codes. -/
def imgDists (b : Fin 16) (p : Fin 1024) : Fin 1024 → EReal := sqDist (fun ch => Z (ix3 b ch p)) (rows E)

/-- The number of the code nearest to position `p` of image `b`. -/
def near (b : Fin 16) (p : Fin 1024) : Fin 1024 := code (imgDists Z E b p)

/-- The distance to that code. -/
def least (b : Fin 16) (p : Fin 1024) : EReal := imgDists Z E b p (near Z E b p)

/-- The nearest codes, channel by channel. -/
def quantised : Vec Ideal S16x256x1024 .f32 := fun i => E (ix2 (near Z E (i 0) (i 2)) (i 1))

/-- Their numbers. -/
def numbers : Vec Ideal S16x1x1024 .i32 := fun i => word (near Z E (i 0) (i 2))

/-- The sum of the least distances of the two images of a grid point, first image first. -/
def pairSum (t : Fin 8) : EReal :=
  (∑ p, least Z E ⟨2 * t.val, by omega⟩ p) + ∑ p, least Z E ⟨2 * t.val + 1, by omega⟩ p

/-- The total. -/
def total : Vec Ideal S1x1 .f32 := fun _ => ∑ t, pairSum Z E t

end Arrays

variable (m : (ℓ : Loc nD τ sig) → Buf (Elt Ideal) ℓ) (c : Dev nD)

/-- The images the pipeline reads, positions flattened. -/
abbrev images : Vec Ideal S16x256x1024 .f32 := V m c main_v0
/-- The codebook. -/
abbrev book : Vec Ideal S1024x256 .f32 := m ((c : Thread nD τ).loc main_arg1)

/-- The images are the input with its two spatial axes flattened. -/
theorem images_eq : images m c
    = shapeCast S16x256x1024 (m ((c : Thread nD τ).loc main_arg0)) shapeCasts_S16x256x32x32_S16x256x1024 := by
  unfold images; entry_read; rfl

/-- The scaled codebook the pipeline reads. -/
theorem scaled_eq : (V m c main_v2 : FVec Ideal S1024x256 .f32)
    = (mulf (broadcastInDim S1024x256 ![] bcast_S_S1024x256 (constant S_ .f32 0xC0000000#32)) (book m c) : FVec Ideal S1024x256 .f32) := by
  entry_read; rfl

/-- Which block of each array a grid point works on. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![0, 0] :=
  (by decide +kernel : ∀ t : Fin grid0.N, _)

/-- There are eight grid points. -/
theorem lt_eight (t : Fin cfg0.N) : t.val < 8 := lt_of_lt_of_eq t.isLt N_0

/-! ## The blocks a grid point reads -/

/-- The codebook block. -/
abbrev blkE (t : Fin cfg0.N) : Vec Ideal S1024x256 .f32 := iblk m c 1 t
/-- The scaled codebook block. -/
abbrev blkS (t : Fin cfg0.N) : Vec Ideal S1024x256 .f32 := iblk m c 2 t

/-- The codebook block is the codebook. -/
theorem book_at (t : Fin cfg0.N) (k : Fin 1024) (ch : Fin 256) :
    blkE m c t (ix2 k ch) = book m c (ix2 k ch) := by
  blk_point [iblk, V, idx t]

/-- The scaled block is −2 times the codebook block. -/
theorem scaled_at (t : Fin cfg0.N) (k : Fin 1024) (ch : Fin 256) :
    blkS m c t (ix2 k ch)
      = -2 * blkE m c t (ix2 k ch) := by
  have h : blkS m c t (ix2 k ch) = (V m c main_v2 : Vec Ideal S1024x256 .f32) (ix2 k ch) := by
    blk_point [iblk, idx t]
  rw [h, book_at, scaled_eq]
  pointwise
  exact congrArg (· * _) bits_neg_two

/-- The first image of a grid point's block. -/
abbrev img0 (t : Fin cfg0.N) : Vec Ideal S1x256x1024 .f32 :=
  View.ld (iblk m c 0 t) (Rect.unit ![0, 0, 0] ![1, 256, 1024] inb_S2x256x1024_S1x256x1024_0_0_0)
/-- The second. -/
abbrev img1 (t : Fin cfg0.N) : Vec Ideal S1x256x1024 .f32 :=
  View.ld (iblk m c 0 t) (Rect.unit ![1, 0, 0] ![1, 256, 1024] inb_S2x256x1024_S1x256x1024_1_0_0)

/-- The first image of a grid point's block is image `2·t`. -/
theorem img0_at (t : Fin cfg0.N) (ch : Fin 256) (p : Fin 1024) :
    img0 m c t (ix3 0 ch p) = images m c (ix3 ⟨2 * t.val, by have := lt_eight t; omega⟩ ch p) := by
  pointwise [img0]
  blk_point [iblk, idx t]

/-- The second image of a grid point's block is image `2·t + 1`. -/
theorem img1_at (t : Fin cfg0.N) (ch : Fin 256) (p : Fin 1024) :
    img1 m c t (ix3 0 ch p) = images m c (ix3 ⟨2 * t.val + 1, by have := lt_eight t; omega⟩ ch p) := by
  pointwise [img1]
  blk_point [iblk, idx t]

/-- The distances a grid point computes from its first image are those of image `2·t`, -/
theorem dists0 (t : Fin cfg0.N) (p : Fin 1024) : dists (blkE m c t) (img0 m c t) p
    = imgDists (images m c) (book m c) ⟨2 * t.val, by have := lt_eight t; omega⟩ p := by
  exact congrArg₂ sqDist (funext fun ch => img0_at m c t ch p) (funext fun k => funext fun ch => book_at m c t k ch)

/-- and from its second, those of image `2·t + 1`. -/
theorem dists1 (t : Fin cfg0.N) (p : Fin 1024) : dists (blkE m c t) (img1 m c t) p
    = imgDists (images m c) (book m c) ⟨2 * t.val + 1, by have := lt_eight t; omega⟩ p := by
  exact congrArg₂ sqDist (funext fun ch => img1_at m c t ch p) (funext fun k => funext fun ch => book_at m c t k ch)

/-! ## The nearest codes and their numbers -/

/-- The block of codes a point stores, first image, -/
theorem codes0 (t : Fin cfg0.N) (ch : Fin 256) (p : Fin 1024) (j : S16x256x1024.Idx)
    (h0 : (j 0 : ℕ) = 2 * t.val) (h1 : (j 1 : ℕ) = ch) (h2 : (j 2 : ℕ) = p) :
    k0_pay10 (blkE m c t) (blkS m c t) (img0 m c t) (ix3 0 ch p) = quantised (images m c) (book m c) j := by
  idx_vars j
  obtain rfl := Fin.ext h1
  obtain rfl := Fin.ext h2
  rw [pay10_at _ _ (scaled_at m c t), dists0, ← show _ = (⟨2 * t.val, _⟩ : Fin 16) from Fin.ext h0]
  exact book_at m c t _ _

/-- and second image. -/
theorem codes1 (t : Fin cfg0.N) (ch : Fin 256) (p : Fin 1024) (j : S16x256x1024.Idx)
    (h0 : (j 0 : ℕ) = 2 * t.val + 1) (h1 : (j 1 : ℕ) = ch) (h2 : (j 2 : ℕ) = p) :
    k0_pay10 (blkE m c t) (blkS m c t) (img1 m c t) (ix3 0 ch p) = quantised (images m c) (book m c) j := by
  idx_vars j
  obtain rfl := Fin.ext h1
  obtain rfl := Fin.ext h2
  rw [pay10_at _ _ (scaled_at m c t), dists1, ← show _ = (⟨2 * t.val + 1, _⟩ : Fin 16) from Fin.ext h0]
  exact book_at m c t _ _

/-- The first output array holds the nearest codes. -/
theorem final_codes : (dats m 0 c).arrAt 3 (cfgs 0).N = quantised (images m c) (book m c) := by
  refine (dats m 0 c).arrAt_eq_of_covers 3 _ (by decide +kernel) fun t hf y => ?_
  blk_simp
  rw [after0_3]
  by_cases hc : t.val % 8 = 0 <;> [rw [outsAt0_A m c t hc]; rw [outsAt0_B m c t hc]] <;> frame_out <;>
    canon_tiles x h <;> idx_vars x <;> obtain rfl := Subsingleton.elim x0 0
  all_goals first
    | (rw [pay16_eq]; refine codes1 m c t _ _ _ ?_ ?_ ?_ <;> blk_simp [idx t] <;> omega)
    | (refine codes0 m c t _ _ _ ?_ ?_ ?_ <;> blk_simp [idx t] <;> omega)

/-- The block of numbers a point stores, first image, -/
theorem numbers0 (t : Fin cfg0.N) (p : Fin 1024) (j : S16x1x1024.Idx) (h0 : (j 0 : ℕ) = 2 * t.val) (h2 : (j 2 : ℕ) = p) :
    k0_pay9 (blkE m c t) (blkS m c t) (img0 m c t) (ix3 0 0 p) = numbers (images m c) (book m c) j := by
  idx_vars j
  obtain rfl := Fin.ext h2
  rw [pay9_at _ _ (scaled_at m c t), dists0, ← show _ = (⟨2 * t.val, _⟩ : Fin 16) from Fin.ext h0]
  rfl

/-- and second image. -/
theorem numbers1 (t : Fin cfg0.N) (p : Fin 1024) (j : S16x1x1024.Idx) (h0 : (j 0 : ℕ) = 2 * t.val + 1) (h2 : (j 2 : ℕ) = p) :
    k0_pay9 (blkE m c t) (blkS m c t) (img1 m c t) (ix3 0 0 p) = numbers (images m c) (book m c) j := by
  idx_vars j
  obtain rfl := Fin.ext h2
  rw [pay9_at _ _ (scaled_at m c t), dists1, ← show _ = (⟨2 * t.val + 1, _⟩ : Fin 16) from Fin.ext h0]
  rfl

/-- The second output array holds their numbers. -/
theorem final_numbers : (dats m 0 c).arrAt 4 (cfgs 0).N = numbers (images m c) (book m c) := by
  refine (dats m 0 c).arrAt_eq_of_covers 4 _ (by decide +kernel) fun t hf y => ?_
  blk_simp
  rw [after0_4]
  by_cases hc : t.val % 8 = 0 <;> [rw [outsAt0_A m c t hc]; rw [outsAt0_B m c t hc]] <;> frame_out <;>
    canon_tiles x h <;> idx_vars x <;> obtain rfl := Subsingleton.elim x0 0 <;> obtain rfl := Subsingleton.elim x1 0
  all_goals first
    | (rw [pay15_eq]; refine numbers1 m c t _ _ ?_ ?_ <;> blk_simp [idx t] <;> omega)
    | (refine numbers0 m c t _ _ ?_ ?_ <;> blk_simp [idx t] <;> omega)

/-! ## The total -/

/-- What a grid point adds to the running sum `a`. -/
theorem step_at (t : Fin cfg0.N) (a : Vec Ideal S1x1 .f32) (j : S1x1.Idx) :
    k0_pay2 (k0_pay11 k0_pay5 (k0_pay7 (blkE m c t) (blkS m c t) (img0 m c t)))
      (k0_pay17 (k0_pay3 (blkS m c t)) (k0_pay4 (blkE m c t)) (img1 m c t)) a j
      = a j + pairSum (images m c) (book m c) ⟨t.val, lt_eight t⟩ := by
  obtain rfl : j = ix2 0 0 := by idx_vars j; congr <;> exact Subsingleton.elim _ _
  have hp : ∀ (v : FVec Ideal S1x1 .f32) (w : EReal) (a : Vec Ideal S1x1 .f32),
      k0_pay2 v w a (ix2 0 0) = a (ix2 0 0) + (v (ix2 0 0) + w) := fun v w a => by pointwise [k0_pay2]
  have h5 : k0_pay5 (F := Ideal) (ix2 0 0) = 0 := by pointwise [k0_pay5]
  rw [hp, pay11_at _ _ (scaled_at m c t), pay17_eq _ _ (scaled_at m c t), h5, zero_add]
  simp only [dists0, dists1]
  rfl

/-- The third output array holds the sum of all the least distances. -/
theorem final_total : (dats m 0 c).arrAt 5 (cfgs 0).N = total (images m c) (book m c) := by
  refine (dats m 0 c).arrAt_eq_of_after_last 5 t0_7 (by decide +kernel) _ fun j => ?_
  blk_simp
  have h1 : ∀ j, k0_pay1 (F := Ideal) j = 0 := fun j => by pointwise [k0_pay1]
  rw [after0_5, Pipeline.eq_sum_fin_of_reset_step_apply_last (fun n h => (outsAt0 m c n h).2.2) 8 (fun _ => 0)
    (fun p _ => pairSum (images m c) (book m c) ⟨p.val, lt_eight p⟩)
    (fun t h j => by rw [outsAt0_A m c t h]; frame_out; exact (step_at m c t _ j).trans (by rw [h1]))
    (fun t h j => by rw [outsAt0_B m c t h]; frame_out; exact step_at m c t _ j)
    (le_of_eq N_0) t0_7 rfl j, zero_add]
  rfl

end Cert.KernelIdeal.Value

end
-- ==== Proof.KernelRun.lean ====
/-
  What the kernel program returns: the three arrays of its pipeline, reshaped, the total scaled.
-/
module

public import proofs.«01_k».proof.Proof.KernelValue

@[expose] public section

set_option maxRecDepth 16384

noncomputable section

namespace Cert.KernelIdeal.Value

open Cert.KernelIdeal Cert.KernelIdeal.Gen Cert.KernelIdeal.Block Cert.Vq Idealize.ShloMosaic Idealize.ShloMosaic.TcCoe Idealize.SL.Sem Idealize.ShloMosaic.StableHlo

variable (m : (ℓ : Loc nD τ sig) → Buf (Elt Ideal) ℓ) (ρ : Dev nD → PrngReg)

variable (c : Dev nD)

/-- The pipeline's arrays as the operations after it find them. -/
abbrev left : Valuation τ sig (Elt Ideal) :=
  Pipeline.withArrays (cfgs 0).spec c (V0 m c) fun w => (dats m 0 c).arrAt w (cfgs 0).N

/-- The first array the pipeline leaves holds the nearest codes. -/
theorem left_codes : left m c (Proc.devRef .tc main_v3_0) = quantised (images m c) (book m c) :=
  (Pipeline.withArrays_arr (cfgs 0).spec (by decide) c _ _ 3).trans (final_codes m c)

/-- The second holds the codes' numbers. -/
theorem left_numbers : left m c (Proc.devRef .tc main_v3_1) = numbers (images m c) (book m c) :=
  (Pipeline.withArrays_arr (cfgs 0).spec (by decide) c _ _ 4).trans (final_numbers m c)

/-- The third holds the sum of the least distances. -/
theorem left_total : left m c (Proc.devRef .tc main_v3_2) = total (images m c) (book m c) :=
  (Pipeline.withArrays_arr (cfgs 0).spec (by decide) c _ _ 5).trans (final_total m c)

/-- The operations after the pipeline, from any contents: two reshapes, and a reshape scaled. -/
theorem tail_read (W : Valuation τ sig (Elt Ideal)) :
    after hostOps1 W (Proc.devRef .tc main_v4)
        = shapeCast S16x256x32x32 (W (Proc.devRef .tc main_v3_0)) shapeCasts_S16x256x1024_S16x256x32x32
    ∧ after hostOps1 W (Proc.devRef .tc main_v7)
        = (mulf (shapeCast S_ (W (Proc.devRef .tc main_v3_2)) shapeCasts_S1x1_S_) (constant S_ .f32 0x33800000#32) : FVec Ideal S_ .f32)
    ∧ after hostOps1 W (Proc.devRef .tc main_v5)
        = shapeCast S16384 (W (Proc.devRef .tc main_v3_1)) shapeCasts_S16x1x1024_S16384 := by
  refine ⟨?_, ?_, ?_⟩ <;> after_results <;> rfl

/-- The output the kernel returns. -/
def outK : FVec Ideal S16x256x32x32 .f32 :=
  shapeCast S16x256x32x32 (quantised (images m c) (book m c)) shapeCasts_S16x256x1024_S16x256x32x32
/-- The loss the kernel returns. -/
def lossK : FVec Ideal S_ .f32 :=
  mulf (shapeCast S_ (total (images m c) (book m c)) shapeCasts_S1x1_S_) (constant S_ .f32 0x33800000#32)
/-- The indices the kernel returns. -/
def idxK : IVec S16384 32 :=
  shapeCast S16384 (numbers (images m c) (book m c)) shapeCasts_S16x1x1024_S16384

/-- Every weakly fair execution of the kernel program ends with its three results at these values. -/
theorem run : θ_run defs (onTc (τ := τ) (main (F := Ideal))) ⟨m, fun _ => 0, ρ⟩ fun r => ∀ c : Dev nD,
      r.2.mem ((c.tc : Thread nD τ).loc main_v4) = outK m c
      ∧ r.2.mem ((c.tc : Thread nD τ).loc main_v7) = lossK m c
      ∧ r.2.mem ((c.tc : Thread nD τ).loc main_v5) = idxK m c := by
  run_from Gen.run_main m ρ
  · exact (tail_read (left m c)).1.trans (by rw [left_codes]; rfl)
  · exact (tail_read (left m c)).2.1.trans (by rw [left_total]; rfl)
  · exact (tail_read (left m c)).2.2.trans (by rw [left_numbers]; rfl)

end Cert.KernelIdeal.Value

end
-- ==== Proof.RefRun.lean ====
/-
  The reference program as a straight line of host operations, and what that line leaves in its buffers.

  The line is cut in four pieces, the way the mathematics goes: the table of distances, the arg-min along the
  codes, the lookup of the chosen codes, and the two float results. Each piece is read on its own, from any
  contents of the buffers before it, as a named function of arrays; `run` puts the four readings together.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The four pieces of the line -/

/-- Channels last, positions flattened, and the table of distances of every position to every code. -/
abbrev distOps : List (HloOp τ sig (Elt F)) :=
  [ unary main_arg0 main_v0 ((transpose S16x32x32x256 [0, 2, 3, 1] · transposes_S16x256x32x32_S16x32x32x256_0_2_3_1) : (⟨S16x256x32x32, .f32⟩ : BufTy).Contents (Elt F) → (⟨S16x32x32x256, .f32⟩ : BufTy).Contents (Elt F)),
    reshape main_v0 main_v1 (rfl : (.f32 : EltTy) = .f32) shapeCasts_S16x32x32x256_S16384x256,
    binary main_v1 main_v1 main_v2 (mulf : (⟨S16384x256, .f32⟩ : BufTy).Contents (Elt F) → (⟨S16384x256, .f32⟩ : BufTy).Contents (Elt F) → (⟨S16384x256, .f32⟩ : BufTy).Contents (Elt F)),
    nullary main_cst (constant S_ .f32 0x00000000#32),
    binary main_v2 main_cst main_v3 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S16384x1024 ![0, 1] bcast_S16384x1_S16384x1024_0_1 : (⟨S16384x1, .f32⟩ : BufTy).Contents (Elt F) → (⟨S16384x1024, .f32⟩ : BufTy).Contents (Elt F)),
    unary main_v7 main_v9 (broadcastInDim S16384x1024 ![0, 1] bcast_S1x1024_S16384x1024_0_1 : (⟨S1x1024, .f32⟩ : BufTy).Contents (Elt F) → (⟨S16384x1024, .f32⟩ : BufTy).Contents (Elt F)),
    binary main_v8 main_v9 main_v10 (addf : (⟨S16384x1024, .f32⟩ : BufTy).Contents (Elt F) → (⟨S16384x1024, .f32⟩ : BufTy).Contents (Elt F) → (⟨S16384x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_1 (constant S_ .f32 0x40000000#32),
    unary main_cst_1 main_v13 (broadcastInDim S16384x1024 ![] bcast_S_S16384x1024 : (⟨S_, .f32⟩ : BufTy).Contents (Elt F) → (⟨S16384x1024, .f32⟩ : BufTy).Contents (Elt F)),
    binary main_v13 main_v12 main_v14 (mulf : (⟨S16384x1024, .f32⟩ : BufTy).Contents (Elt F) → (⟨S16384x1024, .f32⟩ : BufTy).Contents (Elt F) → (⟨S16384x1024, .f32⟩ : BufTy).Contents (Elt F)),
    binary main_v10 main_v14 main_v15 (subf : (⟨S16384x1024, .f32⟩ : BufTy).Contents (Elt F) → (⟨S16384x1024, .f32⟩ : BufTy).Contents (Elt F) → (⟨S16384x1024, .f32⟩ : BufTy).Contents (Elt F)) ]

/-- The arg-min of that table along the codes. -/
abbrev argminOps : List (HloOp τ sig (Elt F)) :=
  [ TRef.nullary main_call0.v0 (iotaInDim S16384x1024 32 1),
    TRef.nullary main_call0.cst (constant S_ .f32 0x7F800000#32),
    TRef.nullary main_call0.c (constantI S_ 32 0#32),
    TRef.quaternary (.of main_v15) main_call0.v0 main_call0.cst main_call0.c main_call0.v1_0 (fun x y u v j => (Host.argReduce reducer_argmin_f32_i32 x y u v reducesTo_S16384x1024_S16384_d1 h_S_ j).1),
    TRef.quaternary (.of main_v15) main_call0.v0 main_call0.cst main_call0.c main_call0.v1_1 (fun x y u v j => (Host.argReduce reducer_argmin_f32_i32 x y u v reducesTo_S16384x1024_S16384_d1 h_S_ j).2) ]

/-- The codes at the chosen indices (a NaN row where an index is out of range). -/
abbrev takeOps : List (HloOp τ sig (Elt F)) :=
  [ TRef.nullary main_call1.c (constantI S_ 32 0#32),
    TRef.unary main_call1.c main_call1.v0 (broadcastInDim S16384 ![] bcast_S_S16384),
    TRef.binary (.of main_v16) main_call1.v0 main_call1.v1 (cmpi .slt),
    TRef.nullary main_call1.c_0 (constantI S_ 32 1024#32),
    TRef.unary main_call1.c_0 main_call1.v2 (broadcastInDim S16384 ![] bcast_S_S16384),
    TRef.binary (.of main_v16) main_call1.v2 main_call1.v3 addi,
    TRef.ternary main_call1.v1 main_call1.v3 (.of main_v16) main_call1.call0.v0 select,
    TRef.unary main_call1.call0.v0 main_call1.v5 (broadcastInDim S16384x1 ![0] bcast_S16384_S16384x1_0),
    TRef.nullary main_call1.c_1 (constantI S1 32 1023#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S1024x256_S16384x1_S16384x256_1_0_n_n_0_1_1256 x i),
    TRef.unary main_call1.v12 main_call1.v14 (broadcastInDim S16384x256 ![0] bcast_S16384_S16384x256_0),
    TRef.nullary main_call1.cst (constant S_ .f32 0x7FC00000#32),
    TRef.unary main_call1.cst main_call1.v15 (broadcastInDim S16384x256 ![] bcast_S_S16384x256),
    TRef.ternary main_call1.v14 main_call1.v13 main_call1.v15 main_call1.v16 select ]

/-- The scaled mean square and the straight-through output. -/
abbrev outOps : List (HloOp τ sig (Elt F)) :=
  [ reshape main_v17 main_v18 (rfl : (.f32 : EltTy) = .f32) shapeCasts_S16384x256_S16x32x32x256,
    binary main_v18 main_v0 main_v19 (subf : (⟨S16x32x32x256, .f32⟩ : BufTy).Contents (Elt F) → (⟨S16x32x32x256, .f32⟩ : BufTy).Contents (Elt F) → (⟨S16x32x32x256, .f32⟩ : BufTy).Contents (Elt F)),
    binary main_v19 main_v19 main_v20 (mulf : (⟨S16x32x32x256, .f32⟩ : BufTy).Contents (Elt F) → (⟨S16x32x32x256, .f32⟩ : BufTy).Contents (Elt F) → (⟨S16x32x32x256, .f32⟩ : BufTy).Contents (Elt F)),
    nullary main_cst_2 (constant S_ .f32 0x00000000#32),
    binary main_v20 main_cst_2 main_v21 ((fun x v => Host.reduceAdd x v reducesTo_S16x32x32x256_S_d0_1_2_3 h_S_) : (⟨S16x32x32x256, .f32⟩ : BufTy).Contents (Elt F) → (⟨S_, .f32⟩ : BufTy).Contents (Elt F) → (⟨S_, .f32⟩ : BufTy).Contents (Elt F)),
    nullary main_cst_3 (constant S_ .f32 0x4A800000#32),
    binary main_v21 main_cst_3 main_v22 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v22 main_v23 (mulf : (⟨S_, .f32⟩ : BufTy).Contents (Elt F) → (⟨S_, .f32⟩ : BufTy).Contents (Elt F) → (⟨S_, .f32⟩ : BufTy).Contents (Elt F)),
    binary main_v18 main_v0 main_v24 (subf : (⟨S16x32x32x256, .f32⟩ : BufTy).Contents (Elt F) → (⟨S16x32x32x256, .f32⟩ : BufTy).Contents (Elt F) → (⟨S16x32x32x256, .f32⟩ : BufTy).Contents (Elt F)),
    binary main_v0 main_v24 main_v25 (addf : (⟨S16x32x32x256, .f32⟩ : BufTy).Contents (Elt F) → (⟨S16x32x32x256, .f32⟩ : BufTy).Contents (Elt F) → (⟨S16x32x32x256, .f32⟩ : BufTy).Contents (Elt F)),
    unary main_v25 main_v26 ((transpose S16x256x32x32 [0, 3, 1, 2] · transposes_S16x32x32x256_S16x256x32x32_0_3_1_2) : (⟨S16x32x32x256, .f32⟩ : BufTy).Contents (Elt F) → (⟨S16x256x32x32, .f32⟩ : BufTy).Contents (Elt F)) ]

/-- The whole line. -/
abbrev ops : List (HloOp τ sig (Elt F)) := distOps ++ (argminOps ++ (takeOps ++ outOps))

set_option maxRecDepth 8192 in
/-- `main` is that line. -/
theorem main_eq (c : Dev nD) : main (F := F) c = seq ops := rfl

/-- The reference has no scoped arrays. -/
theorem no_scoped_refs : (Finset.univ.filter fun b : Ref sig .tc => b.isScoped) = ∅ := by decide
/-- The reference has no scoped semaphores. -/
theorem no_scoped_sems : (Finset.univ.filter fun sm : SemLoc sig => sm.isScoped .tc) = ∅ := by decide

set_option maxRecDepth 8192 in
/-- Every operation of the line works on the core's own buffers. -/
theorem ops_sub : (ops : List (HloOp τ sig (Elt F))).Forall fun op => op.bufs ⊆ tcRefs τ sig := by
  simp [ops, List.forall_append]

/-! ## The functions the pieces compute -/

/-- Channels last. -/
def chanLast (z : FVec F S16x256x32x32 .f32) : FVec F S16x32x32x256 .f32 :=
  transpose S16x32x32x256 [0, 2, 3, 1] z transposes_S16x256x32x32_S16x32x32x256_0_2_3_1

/-- One row of channels per position. -/
def flat (z : FVec F S16x256x32x32 .f32) : FVec F S16384x256 .f32 :=
  shapeCast S16384x256 (chanLast z) shapeCasts_S16x32x32x256_S16384x256

/-- The squared distance of every row to every code, expanded. -/
def distTable (x : FVec F S16384x256 .f32) (e : FVec F S1024x256 .f32) : FVec F S16384x1024 .f32 :=
  subf
    (addf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf e e) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none x
        (transpose S256x1024 [1, 0] e transposes_S1024x256_S256x1024_1_0)))

/-- The arg-min of each row of a table. -/
def nearest (d : FVec F S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- A negative index counted from the end, as a column. -/
def wrapped (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which of those indices lie in the codebook. -/
def inRange (i : IVec S16384x1 32) : IVec S16384 1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codes at the indices `i`. -/
def lookup (e : FVec F S1024x256 .f32) (i : IVec S16384 32) : FVec F S16384x256 .f32 :=
  select (broadcastInDim S16384x256 ![0] bcast_S16384_S16384x256_0 (inRange (wrapped i)))
    (Host.gather gather_S1024x256_S16384x1_S16384x256_1_0_n_n_0_1_1256 e (wrapped i))
    (broadcastInDim S16384x256 ![] bcast_S_S16384x256 (constant S_ .f32 0x7FC00000#32))

/-- The looked-up rows minus the input, channels last. -/
def residual (x : FVec F S16x32x32x256 .f32) (q : FVec F S16384x256 .f32) : FVec F S16x32x32x256 .f32 :=
  subf (shapeCast S16x32x32x256 q shapeCasts_S16384x256_S16x32x32x256) x

/-- The scaled mean square of the residual. -/
def lossOf (x : FVec F S16x32x32x256 .f32) (q : FVec F S16384x256 .f32) : FVec F S_ .f32 :=
  mulf (constant S_ .f32 0x3E800000#32)
    (Host.divf (Host.reduceAdd (mulf (residual x q) (residual x q)) (constant S_ .f32 0x00000000#32)
      reducesTo_S16x32x32x256_S_d0_1_2_3 h_S_) (constant S_ .f32 0x4A800000#32))

/-- The input plus the residual, channels first again. -/
def outOf (x : FVec F S16x32x32x256 .f32) (q : FVec F S16384x256 .f32) : FVec F S16x256x32x32 .f32 :=
  transpose S16x256x32x32 [0, 3, 1, 2] (addf x (residual x q)) transposes_S16x32x32x256_S16x256x32x32_0_3_1_2

/-! ## What each piece leaves -/

section Pieces
variable (V : Valuation τ sig (Elt F))

/-- The distances piece: the channels-last input and the table; the codebook and the input stay. -/
theorem dist_read :
    after distOps V (Proc.devRef .tc main_v0) = chanLast (V (Proc.devRef .tc main_arg0))
    ∧ after distOps V (Proc.devRef .tc main_v15) = distTable (flat (V (Proc.devRef .tc main_arg0))) (V (Proc.devRef .tc main_arg1))
    ∧ after distOps V (Proc.devRef .tc main_arg0) = V (Proc.devRef .tc main_arg0)
    ∧ after distOps V (Proc.devRef .tc main_arg1) = V (Proc.devRef .tc main_arg1) := by
  refine ⟨?_, ?_, ?_, ?_⟩ <;> (simp only [distOps]; after_results_simp <;> rfl)

/-- The arg-min piece: the indices. -/
theorem argmin_read :
    after argminOps V (Proc.devRef .tc main_v16) = nearest (V (Proc.devRef .tc main_v15))
    ∧ after argminOps V (Proc.devRef .tc main_v0) = V (Proc.devRef .tc main_v0)
    ∧ after argminOps V (Proc.devRef .tc main_arg0) = V (Proc.devRef .tc main_arg0)
    ∧ after argminOps V (Proc.devRef .tc main_arg1) = V (Proc.devRef .tc main_arg1) := by
  refine ⟨?_, ?_, ?_, ?_⟩ <;>
    (simp only [argminOps, TRef.nullary, TRef.quaternary, TRef.toBuf, TRef.ofBuf, cast_eq]
     after_results_simp <;> rfl)

/-- The lookup piece: the chosen codes. -/
theorem take_read :
    after takeOps V (Proc.devRef .tc main_v17) = lookup (V (Proc.devRef .tc main_arg1)) (V (Proc.devRef .tc main_v16))
    ∧ after takeOps V (Proc.devRef .tc main_v16) = V (Proc.devRef .tc main_v16)
    ∧ after takeOps V (Proc.devRef .tc main_v0) = V (Proc.devRef .tc main_v0)
    ∧ after takeOps V (Proc.devRef .tc main_arg0) = V (Proc.devRef .tc main_arg0)
    ∧ after takeOps V (Proc.devRef .tc main_arg1) = V (Proc.devRef .tc main_arg1) := by
  refine ⟨?_, ?_, ?_, ?_, ?_⟩ <;>
    (simp only [takeOps, TRef.nullary, TRef.unary, TRef.binary, TRef.ternary, TRef.toBuf, TRef.ofBuf, cast_eq]
     after_results_simp <;> rfl)

/-- The last piece: the two float results; the indices stay. -/
theorem out_read :
    after outOps V (Proc.devRef .tc main_v26) = outOf (V (Proc.devRef .tc main_v0)) (V (Proc.devRef .tc main_v17))
    ∧ after outOps V (Proc.devRef .tc main_v23) = lossOf (V (Proc.devRef .tc main_v0)) (V (Proc.devRef .tc main_v17))
    ∧ after outOps V (Proc.devRef .tc main_v16) = V (Proc.devRef .tc main_v16)
    ∧ after outOps V (Proc.devRef .tc main_arg0) = V (Proc.devRef .tc main_arg0)
    ∧ after outOps V (Proc.devRef .tc main_arg1) = V (Proc.devRef .tc main_arg1) := by
  refine ⟨?_, ?_, ?_, ?_, ?_⟩ <;> (simp only [outOps]; after_results_simp <;> rfl)

end Pieces

/-! ## The run -/

section Run
variable (z : FVec F S16x256x32x32 .f32) (e : FVec F S1024x256 .f32)

/-- The indices the reference returns. -/
def idxR : IVec S16384 32 := nearest (distTable (flat z) e)
/-- The loss the reference returns. -/
def lossR : FVec F S_ .f32 := lossOf (chanLast z) (lookup e (idxR z e))
/-- The output the reference returns. -/
def outR : FVec F S16x256x32x32 .f32 := outOf (chanLast z) (lookup e (idxR z e))

end Run

/-- The whole line read from any contents: the three results as functions of the two arguments, which stay. -/
theorem line_read (V : Valuation τ sig (Elt F)) :
    after ops V (Proc.devRef .tc main_v26) = outR (V (Proc.devRef .tc main_arg0)) (V (Proc.devRef .tc main_arg1))
    ∧ after ops V (Proc.devRef .tc main_v23) = lossR (V (Proc.devRef .tc main_arg0)) (V (Proc.devRef .tc main_arg1))
    ∧ after ops V (Proc.devRef .tc main_v16) = idxR (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  rw [after_append, after_append, after_append]
  obtain ⟨a0, a1, a2, a3⟩ := dist_read V
  obtain ⟨b0, b1, b2, b3⟩ := argmin_read (after distOps V)
  obtain ⟨c0, c1, c2, c3, c4⟩ := take_read (after argminOps (after distOps V))
  obtain ⟨d0, d1, d2, d3, d4⟩ := out_read (after takeOps (after argminOps (after distOps V)))
  refine ⟨?_, ?_, ?_, ?_, ?_⟩
  · rw [d0, c0, c2, b0, b1, b3, a0, a1, a3]; rfl
  · rw [d1, c0, c2, b0, b1, b3, a0, a1, a3]; rfl
  · rw [d2, c1, b0, a1]; rfl
  · rw [d3, c3, b2, a2]
  · rw [d4, c4, b3, a3]

/-- Every weakly fair execution of the reference ends with its three results at these functions of the
    arguments, the arguments unchanged, and every semaphore counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v26)
          = outR (m ((c.tc : Thread nD τ).loc main_arg0)) (m ((c.tc : Thread nD τ).loc main_arg1))
      ∧ r.2.mem ((c.tc : Thread nD τ).loc main_v23)
          = lossR (m ((c.tc : Thread nD τ).loc main_arg0)) (m ((c.tc : Thread nD τ).loc main_arg1))
      ∧ r.2.mem ((c.tc : Thread nD τ).loc main_v16)
          = idxR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono
    (fun r h => ⟨fun c => by
      obtain ⟨h0, h1, h2, h3, h4⟩ := line_read (launchContents m c)
      exact ⟨(h c main_v26).trans h0, (h c main_v23).trans h1, (h c main_v16).trans h2,
        (h c main_arg0).trans h3, (h c main_arg1).trans h4⟩, sem_eq_zero_of_no_sems (by decide) r.2⟩)
    (run_seq no_scoped_refs no_scoped_sems defs main (fun _ => ops) main_eq (fun _ => ops_sub) m ρ)

/-- The reference leaves its arguments as they were, with every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => (h.1 c).2.2.2, h.2⟩) (run m ρ)

end Cert.ReferenceIdeal.Line

end
-- ==== Proof.RefValue.lean ====
module

public import proofs.«01_k».proof.Proof.RefRun
public import proofs.«01_k».proof.Proof.Spec
public import proofs.«01_k».proof.Proof.Consts
public import Idealize.ShloMosaic.Lib.Pipeline.ValueKit
public import Idealize.ShloMosaic.Lib.Routing.Ops
public import Idealize.ShloMosaic.Lib.WordCmp

/- The reference's three results read at one index each: an index is the number of the nearest codebook row, the output
   is the position plus its difference from that row, the loss is a scaled sum of the squared differences. Where both
   arguments hold only real numbers these are stated with real arithmetic. -/

@[expose] public section

set_option maxRecDepth 16384

noncomputable section

namespace Cert.ReferenceIdeal.Line

open Cert.ReferenceIdeal Cert.ReferenceIdeal.Gen Cert.Vq Idealize.ShloMosaic

/-- The vector of channels at position `n` of the flattened images. -/
def refRow (z : FVec Ideal S16x256x32x32 .f32) (n : Fin 16384) : Fin 256 → EReal := fun ch =>
  z (ix4 ⟨n.val / 1024, by omega⟩ ch ⟨n.val / 32 % 32, by omega⟩ ⟨n.val % 32, by omega⟩)

/-- Row `n` of the flattened images is that vector. -/
theorem flat_at (z : FVec Ideal S16x256x32x32 .f32) (n : Fin 16384) (ch : Fin 256) :
    flat z (ix2 n ch) = refRow z n ch := by
  pointwise [flat, chanLast, refRow]

/-- The position at image `b`, row `h`, column `w`. -/
def pos (b : Fin 16) (h w : Fin 32) : Fin 16384 := ⟨b.val * 1024 + h.val * 32 + w.val, by omega⟩

/-- The images with the channels last, at an index. -/
theorem chanLast_at (z : FVec Ideal S16x256x32x32 .f32) (b : Fin 16) (h w : Fin 32) (ch : Fin 256) :
    z (ix4 b ch h w) = refRow z (pos b h w) ch := by
  have hb : (⟨(b.val * 1024 + h.val * 32 + w.val) / 1024, by omega⟩ : Fin 16) = b := Fin.ext (by simp only []; omega)
  have hh : (⟨(b.val * 1024 + h.val * 32 + w.val) / 32 % 32, by omega⟩ : Fin 32) = h := Fin.ext (by simp only []; omega)
  have hw : (⟨(b.val * 1024 + h.val * 32 + w.val) % 32, by omega⟩ : Fin 32) = w := Fin.ext (by simp only []; omega)
  simp only [refRow, pos, hb, hh, hw]

/-- The entries of the argmin's fold at row `n` are the row's distances with their column numbers. -/
theorem fiber (d : FVec Ideal S16384x1024 .f32) (n : Fin 16384) (p : EReal × BitVec 32) :
    p ∈ Host.argReduceFiber d (iotaInDim S16384x1024 32 1) reducesTo_S16384x1024_S16384_d1 (ix1 n)
      ↔ ∃ k : Fin 1024, p = (d (ix2 n k), word k) := by
  simp only [Host.argReduceFiber, List.mem_map, List.mem_filter, List.mem_finRange, true_and, decide_eq_true_eq]
  have hv : ∀ i : S16384x1024.Idx, ((reducesTo_S16384x1024_S16384_d1.drop i 0 : Fin _) : ℕ) = (i 0).val := fun i =>
    Shape.ReducesTo.drop_apply_val_of_eq _ i 0 0 (by decide) (by decide)
  constructor
  · rintro ⟨a, ha, rfl⟩
    generalize S16384x1024.rowMajor.symm a = i at ha ⊢
    have h0 := hv i
    rw [ha] at h0
    idx_vars i
    obtain rfl : _ = n := Fin.ext h0.symm
    exact ⟨_, rfl⟩
  · rintro ⟨k, rfl⟩
    refine ⟨S16384x1024.rowMajor (ix2 n k), ?_, ?_⟩
    · rw [Equiv.symm_apply_apply]
      funext b
      obtain rfl : b = 0 := Fin.ext (by have := b.isLt; change b.val < 1 at this; exact Nat.lt_one_iff.1 this)
      exact Fin.ext (hv (ix2 n k))
    · rw [Equiv.symm_apply_apply]; rfl

/-- The argmin's reducer keeps, of two entries, the one with the smaller distance, and of equal distances the one with
the smaller number. -/
theorem key_reducer (a b : EReal × BitVec 32) :
    key (reducer_argmin_f32_i32 (F := Ideal) a b) = min (key a) (key b) := by
  obtain ⟨a1, a2⟩ := a
  obtain ⟨b1, b2⟩ := b
  simp only [reducer_argmin_f32_i32]
  pointwise
  simp only [WordCmp.cmpi_slt_eq]
  have hne : decide (a1 ≠ a1) = false := decide_eq_false (by simp)
  rw [hne]
  rcases lt_trichotomy a1 b1 with h | h | h
  · rw [decide_eq_true h, decide_eq_false h.ne, min_eq_left (Prod.Lex.toLex_le_toLex.2 (Or.inl h))]
    cases decide (a2.toInt < b2.toInt) <;> rfl
  · subst h
    rw [decide_eq_false (lt_irrefl _), decide_eq_true rfl]
    by_cases h2 : a2.toInt < b2.toInt
    · rw [decide_eq_true h2, min_eq_left (show key (a1, a2) ≤ key (a1, b2) from Prod.Lex.toLex_le_toLex.2 (Or.inr ⟨rfl, h2.le⟩))]; rfl
    · rw [decide_eq_false h2, min_eq_right (show key (a1, b2) ≤ key (a1, a2) from Prod.Lex.toLex_le_toLex.2 (Or.inr ⟨rfl, not_lt.1 h2⟩))]; rfl
  · rw [decide_eq_false h.not_gt, decide_eq_false h.ne', min_eq_right (Prod.Lex.toLex_le_toLex.2 (Or.inl h))]
    cases decide (a2.toInt < b2.toInt) <;> rfl

/-- The entries a row's argmin ends with: the first smallest distance and its number. -/
theorem argmin_at (d : FVec Ideal S16384x1024 .f32) (n : Fin 16384) (hd : ∀ k : Fin 1024, d (ix2 n k) < ⊤)
    (u : FVec Ideal S_ .f32) (v : IVec S_ 32) (hu : u (Shape.Idx.first h_S_) = (⊤ : EReal)) (hv : v (Shape.Idx.first h_S_) = 0#32) :
    Host.argReduce (F := Ideal) reducer_argmin_f32_i32 d (iotaInDim S16384x1024 32 1) u v reducesTo_S16384x1024_S16384_d1 h_S_ (ix1 n)
      = (d (ix2 n (code fun k => d (ix2 n k))), word (code fun k => d (ix2 n k))) := by
  have h := foldl_argmin_eq key_reducer (fun k => d (ix2 n k)) hd _ (fiber d n)
  refine ((congrFun (Ideal.argReduce_eq_reduce2 ..) _).trans (Host.reduce2_eq_foldl_fiber ..)).trans ?_
  rw [hu, hv]
  exact h

/-- The reference's argmin table is the second component of the argmin's entries. -/
theorem nearest_eq (d : FVec Ideal S16384x1024 .f32) : nearest d = fun j => (Host.argReduce (F := Ideal) reducer_argmin_f32_i32 d
    (iotaInDim S16384x1024 32 1) (constant S_ .f32 0x7F800000#32) (constantI S_ 32 0#32) reducesTo_S16384x1024_S16384_d1 h_S_ j).2 := rfl

/-- The reference's argmin of a row of distances below infinity is the first smallest one's number. -/
theorem nearest_at (d : FVec Ideal S16384x1024 .f32) (n : Fin 16384) (hd : ∀ k : Fin 1024, d (ix2 n k) < ⊤) :
    nearest d (ix1 n) = word (code fun k => d (ix2 n k)) := by
  have h := argmin_at d n hd (constant S_ .f32 0x7F800000#32) (constantI S_ 32 0#32) bits_top rfl
  refine (congrFun (nearest_eq d) (ix1 n)).trans ?_
  generalize Host.argReduce (F := Ideal) reducer_argmin_f32_i32 d (iotaInDim S16384x1024 32 1) (constant S_ .f32 0x7F800000#32)
    (constantI S_ 32 0#32) reducesTo_S16384x1024_S16384_d1 h_S_ = A at h ⊢
  exact congrArg Prod.snd h

/-- A row number that is not negative is not wrapped. -/
theorem wrapped_at (i : IVec S16384 32) (n : Fin 16384) (k : Fin 1024) (hi : i (ix1 n) = word k) :
    wrapped i (ix2 n 0) = word k := by
  pointwise [wrapped]
  rw [hi, WordCmp.cmpi_slt_eq, word_toInt, decide_eq_false (by simp)]
  rfl

/-- A row number of the codebook is in the codebook's range. -/
theorem inRange_at (i : IVec S16384x1 32) (n : Fin 16384) (k : Fin 1024) (hi : i (ix2 n 0) = word k) :
    inRange i (ix1 n) = 1#1 := by
  pointwise [inRange]
  rw [Fin.univ_succ]
  simp only [Finset.univ_eq_empty, Finset.map_empty, Finset.cons_eq_insert, Finset.insert_empty, Finset.fold_singleton]
  rw [hi, WordCmp.cmpi_sge_eq, WordCmp.cmpi_sle_eq, word_toInt, decide_eq_true (by simp), decide_eq_true (by have := k.isLt; simp; omega)]
  rfl

/-- Looking row `k` up in the codebook gives row `k`. -/
theorem lookup_at (e : FVec Ideal S1024x256 .f32) (i : IVec S16384 32) (n : Fin 16384) (ch : Fin 256) (k : Fin 1024)
    (hi : i (ix1 n) = word k) : lookup e i (ix2 n ch) = e (ix2 k ch) := by
  have hw := wrapped_at i n k hi
  pointwise [lookup]
  rw [inRange_at _ n k hw]
  exact Routing.gather_row _ rfl rfl rfl rfl rfl e (wrapped i) n ch k hw (by norm_num)

/-- The output at an index: the position plus its difference from the row looked up. -/
theorem outOf_at (z : FVec Ideal S16x256x32x32 .f32) (q : FVec Ideal S16384x256 .f32) (b : Fin 16) (ch : Fin 256) (h w : Fin 32) :
    outOf (chanLast z) q (ix4 b ch h w)
      = refRow z (pos b h w) ch + (q (ix2 (pos b h w) ch) - refRow z (pos b h w) ch) := by
  rw [← chanLast_at z b h w ch]
  have : outOf (chanLast z) q (ix4 b ch h w) = chanLast z (ix4 b h w ch) + (q (ix2 (pos b h w) ch) - chanLast z (ix4 b h w ch)) := by
    pointwise [outOf, residual, pos]
  rw [this]
  pointwise [chanLast]

/-- The squared difference at an index. -/
theorem square_at (z : FVec Ideal S16x256x32x32 .f32) (q : FVec Ideal S16384x256 .f32) (b : Fin 16) (h w : Fin 32) (ch : Fin 256) :
    mulf (residual (chanLast z) q) (residual (chanLast z) q) (ix4 b h w ch)
      = (q (ix2 (pos b h w) ch) - refRow z (pos b h w) ch) * (q (ix2 (pos b h w) ch) - refRow z (pos b h w) ch) := by
  rw [← chanLast_at z b h w ch]
  pointwise [residual, chanLast, pos]

/-- The loss: a quarter of the mean of the squared differences over every entry. -/
theorem lossOf_at (z : FVec Ideal S16x256x32x32 .f32) (q : FVec Ideal S16384x256 .f32) (j : S_.Idx) :
    lossOf (chanLast z) q j = ((1 / 4 : ℝ) : EReal) * Ideal.div (∑ b : Fin 16, ∑ h : Fin 32, ∑ w : Fin 32, ∑ ch : Fin 256,
      (q (ix2 (pos b h w) ch) - refRow z (pos b h w) ch) * (q (ix2 (pos b h w) ch) - refRow z (pos b h w) ch))
        ((4194304 : ℝ) : EReal) := by
  have hs := fun b h w ch => square_at z q b h w ch
  have : lossOf (chanLast z) q j = Ideal.ofBits .f32 1048576000#32 * Ideal.div (Ideal.hostReduceAdd reducesTo_S16x32x32x256_S_d0_1_2_3
      (mulf (residual (chanLast z) q) (residual (chanLast z) q)) 0 j) (Ideal.ofBits .f32 1249902592#32) := by
    generalize chanLast z = x
    pointwise [lossOf]
  rw [this, Ideal.hostReduceAdd_total _ (fun b => b.elim0), sum_idx4, zero_add, bits_quarter, bits_count]
  simp only [hs]

section Real

variable (z : FVec Ideal S16x256x32x32 .f32) (e : FVec Ideal S1024x256 .f32)
variable (X : Fin 16384 → Fin 256 → ℝ) (E : Fin 1024 → Fin 256 → ℝ)

/-- The number of the codebook row nearest to position `n`. -/
def refNear (n : Fin 16384) : Fin 1024 := code (sqDist (refRow z n) fun k ch => e (ix2 k ch))

variable (hX : ∀ n ch, refRow z n ch = (X n ch : EReal)) (hE : ∀ k ch, e (ix2 k ch) = (E k ch : EReal))

include hX hE

/-- The squared distances over real entries. -/
theorem sqDist_real (n : Fin 16384) (k : Fin 1024) : sqDist (refRow z n) (fun k ch => e (ix2 k ch)) k
    = ((∑ ch, (E k ch - X n ch) * (E k ch - X n ch) : ℝ) : EReal) := by
  rw [← sqDist_coe (X n) E k, show refRow z n = fun ch => (X n ch : EReal) from funext (hX n)]
  simp only [hE]

/-- The reference's table of distances holds the squared distances. -/
theorem distTable_at (n : Fin 16384) (k : Fin 1024) :
    distTable (flat z) e (ix2 n k) = sqDist (refRow z n) (fun k ch => e (ix2 k ch)) k := by
  have h : distTable (flat z) e (ix2 n k) = ∑ ch, flat z (ix2 n ch) * flat z (ix2 n ch) + ∑ ch, e (ix2 k ch) * e (ix2 k ch)
      - Ideal.ofBits .f32 1073741824#32 * ∑ ch, flat z (ix2 n ch) * e (ix2 k ch) := by
    generalize flat z = x
    pointwise [distTable]
  rw [h, sqDist_real z e X E hX hE, ← sqDist_coe (X n) E k, sqDist_coe_sub, bits_two]
  simp only [flat_at, hX, hE]
  rfl

/-- The reference's indices. -/
theorem idxR_at (n : Fin 16384) : idxR z e (ix1 n) = word (refNear z e n) := by
  have h : (fun k => distTable (flat z) e (ix2 n k)) = sqDist (refRow z n) fun k ch => e (ix2 k ch) :=
    funext fun k => distTable_at z e X E hX hE n k
  unfold idxR
  rw [nearest_at, h]; rfl
  intro k
  rw [distTable_at z e X E hX hE, sqDist_real z e X E hX hE]
  exact EReal.coe_lt_top _

/-- The row the reference looks up for position `n`. -/
theorem lookup_real (n : Fin 16384) (ch : Fin 256) :
    lookup e (idxR z e) (ix2 n ch) = (E (refNear z e n) ch : EReal) :=
  (lookup_at e _ n ch _ (idxR_at z e X E hX hE n)).trans (hE _ _)

/-- The reference's output: the nearest codebook row. -/
theorem outR_at (b : Fin 16) (ch : Fin 256) (h w : Fin 32) :
    outR z e (ix4 b ch h w) = e (ix2 (refNear z e (pos b h w)) ch) := by
  unfold outR
  rw [outOf_at, lookup_real z e X E hX hE, hX, hE, ← EReal.coe_sub, ← EReal.coe_add, add_sub_cancel]

/-- The reference's loss. -/
theorem lossR_at (j : S_.Idx) : lossR z e j = (((1 / 4) * ((∑ b : Fin 16, ∑ h : Fin 32, ∑ w : Fin 32, ∑ ch : Fin 256,
      (E (refNear z e (pos b h w)) ch - X (pos b h w) ch) * (E (refNear z e (pos b h w)) ch - X (pos b h w) ch)) * (1 / 4194304)) : ℝ) : EReal) := by
  unfold lossR
  rw [lossOf_at, Ideal.div_coe (by norm_num)]
  simp only [lookup_real z e X E hX hE, hX, ← EReal.coe_sub, ← EReal.coe_mul, coe_sum]

end Real

end Cert.ReferenceIdeal.Line

end
-- ==== Proof.Equal.lean ====
/-
  The kernel's three results are the reference's, from arguments whose entries are real numbers.

  Position `p` of image `b` is row `1024·b + p` of the flattened images, so both programs take the first least of the
  same squared distances. Over the reals a position plus its difference from a code is the code, and the sum of the
  least distances is the sum of the squared differences, whatever the order.
-/
module

public import proofs.«01_k».proof.Proof.KernelRun
public import proofs.«01_k».proof.Proof.RefValue
public import proofs.«01_k».proof.Proof.Gen.Pre_finite

@[expose] public section

set_option maxRecDepth 16384

noncomputable section

namespace Cert.Equal

open Cert.Vq Cert.KernelIdeal.Value Cert.KernelIdeal.Block Cert.ReferenceIdeal.Line Idealize.ShloMosaic

/-- An array of images. -/
abbrev Images := FVec Ideal Cert.ReferenceIdeal.S16x256x32x32 .f32
/-- A codebook. -/
abbrev Book := FVec Ideal Cert.ReferenceIdeal.S1024x256 .f32

/-! ## The precondition -/

/-- An extended real whose absolute value is below infinity is a real number. -/
theorem real_of_abs_lt (a : EReal) (h : max a (-a) < ⊤) : ∃ r : ℝ, a = (r : EReal) := by
  obtain ⟨h1, h2⟩ := max_lt_iff.1 h
  refine ⟨a.toReal, (EReal.coe_toReal h1.ne ?_).symm⟩
  rintro rfl
  exact absurd h2 (by simp)

/-- A decided proposition is the bit one exactly when it holds. -/
theorem one_iff (p : Prop) [Decidable p] : BitVec.ofBool (decide p) = 1#1 ↔ p := by
  by_cases h : p <;> simp [h]

/-- Under the precondition every entry of both arguments is a real number. -/
theorem real_of_finite (z : Images) (e : Book)
    (h0 : (Cert.Pre_finite.fn (F := Ideal) z e).1 = fun _ => 1#1) (h1 : (Cert.Pre_finite.fn (F := Ideal) z e).2 = fun _ => 1#1) :
    (∀ b ch h w, ∃ r : ℝ, z (ix4 b ch h w) = (r : EReal)) ∧ ∀ k ch, ∃ r : ℝ, e (ix2 k ch) = (r : EReal) := by
  refine ⟨fun b ch h w => real_of_abs_lt _ ?_, fun k ch => real_of_abs_lt _ ?_⟩
  · have := congrFun h0 (ix4 b ch h w)
    revert this
    pointwise [Cert.Pre_finite.fn]
    rw [bits_top, one_iff]
    exact id
  · have := congrFun h1 (ix2 k ch)
    revert this
    pointwise [Cert.Pre_finite.fn]
    rw [bits_top, one_iff]
    exact id

/-! ## Positions -/

/-- Position `p` of image `b` in the flattened images. -/
def row (b : Fin 16) (p : Fin 1024) : Fin 16384 := ⟨b.val * 1024 + p.val, by omega⟩

variable (z : Images) (e : Book)

/-- The images with their spatial axes flattened. -/
abbrev flatImages : FVec Ideal Cert.KernelIdeal.S16x256x1024 .f32 :=
  shapeCast Cert.KernelIdeal.S16x256x1024 z Cert.KernelIdeal.Gen.shapeCasts_S16x256x32x32_S16x256x1024

/-- The flattened images at an index are the vector of channels at that row. -/
theorem flatImages_at (b : Fin 16) (ch : Fin 256) (p : Fin 1024) : flatImages z (ix3 b ch p) = refRow z (row b p) ch := by
  have hb : (⟨(b.val * 1024 + p.val) / 1024, by omega⟩ : Fin 16) = b := Fin.ext (by simp only []; omega)
  have hh : (b.val * 1024 + p.val) / 32 % 32 = p.val / 32 := by omega
  have hw : (b.val * 1024 + p.val) % 32 = p.val % 32 := by omega
  have h : flatImages z (ix3 b ch p) = z (ix4 b ch ⟨p.val / 32, by omega⟩ ⟨p.val % 32, by omega⟩) := by
    pointwise [flatImages]
  rw [h]
  simp only [refRow, row, hb, hh, hw]

/-- Both programs have the same squared distances. -/
theorem imgDists_eq (b : Fin 16) (p : Fin 1024) :
    imgDists (flatImages z) e b p = sqDist (refRow z (row b p)) fun k ch => e (ix2 k ch) := by
  unfold imgDists
  rw [funext fun ch => flatImages_at z b ch p]

/-- Both programs choose the same code. -/
theorem near_eq (b : Fin 16) (p : Fin 1024) : near (flatImages z) e b p = refNear z e (row b p) := by
  unfold near refNear; rw [imgDists_eq]

/-! ## The three results -/

section Real

variable (X : Fin 16384 → Fin 256 → ℝ) (E : Fin 1024 → Fin 256 → ℝ)
variable (hX : ∀ n ch, refRow z n ch = (X n ch : EReal)) (hE : ∀ k ch, e (ix2 k ch) = (E k ch : EReal))

include hX hE

/-- The indices. -/
theorem idx_eq : (shapeCast Cert.KernelIdeal.S16384 (numbers (flatImages z) e) Cert.KernelIdeal.Gen.shapeCasts_S16x1x1024_S16384
    : IVec Cert.KernelIdeal.S16384 32) = idxR z e := by
  funext j
  idx_vars j
  generalize j0 = n
  rw [idxR_at z e X E hX hE]
  have h : (shapeCast Cert.KernelIdeal.S16384 (numbers (flatImages z) e) Cert.KernelIdeal.Gen.shapeCasts_S16x1x1024_S16384
      : IVec Cert.KernelIdeal.S16384 32) (ix1 n) = numbers (flatImages z) e (ix3 ⟨n.val / 1024, by omega⟩ 0 ⟨n.val % 1024, by omega⟩) := by
    generalize numbers (flatImages z) e = N
    pointwise
  rw [h]
  show word (near (flatImages z) e ⟨n.val / 1024, _⟩ ⟨n.val % 1024, _⟩) = _
  rw [near_eq]
  congr 2
  exact Fin.ext (by simp only [row]; omega)

/-- The output. -/
theorem out_eq : (shapeCast Cert.KernelIdeal.S16x256x32x32 (quantised (flatImages z) e) Cert.KernelIdeal.Gen.shapeCasts_S16x256x1024_S16x256x32x32
    : FVec Ideal Cert.KernelIdeal.S16x256x32x32 .f32) = outR z e := by
  funext j
  idx_vars j
  generalize j0 = b
  generalize j1 = ch
  generalize j2 = h
  generalize j3 = w
  rw [outR_at z e X E hX hE]
  have hq : (shapeCast Cert.KernelIdeal.S16x256x32x32 (quantised (flatImages z) e) Cert.KernelIdeal.Gen.shapeCasts_S16x256x1024_S16x256x32x32
      : FVec Ideal Cert.KernelIdeal.S16x256x32x32 .f32) (ix4 b ch h w)
      = quantised (flatImages z) e (ix3 b ch ⟨h.val * 32 + w.val, by omega⟩) := by
    generalize quantised (flatImages z) e = Q
    pointwise
  rw [hq]
  show e (ix2 (near (flatImages z) e b ⟨h.val * 32 + w.val, _⟩) ch) = _
  rw [near_eq]
  congr 3
  exact Fin.ext (by simp only [row, pos]; omega)

/-- The least distance at a position, over the reals. -/
theorem least_eq (b : Fin 16) (p : Fin 1024) : least (flatImages z) e b p
    = ((∑ ch, (E (refNear z e (row b p)) ch - X (row b p) ch) * (E (refNear z e (row b p)) ch - X (row b p) ch) : ℝ) : EReal) := by
  unfold least
  rw [imgDists_eq, near_eq, sqDist_real z e X E hX hE]

/-- The loss. -/
theorem loss_eq : (mulf (shapeCast Cert.KernelIdeal.S_ (total (flatImages z) e) Cert.KernelIdeal.Gen.shapeCasts_S1x1_S_)
    (constant Cert.KernelIdeal.S_ .f32 0x33800000#32) : FVec Ideal Cert.KernelIdeal.S_ .f32) = lossR z e := by
  funext j
  rw [lossR_at z e X E hX hE]
  have h : (mulf (shapeCast Cert.KernelIdeal.S_ (total (flatImages z) e) Cert.KernelIdeal.Gen.shapeCasts_S1x1_S_)
      (constant Cert.KernelIdeal.S_ .f32 0x33800000#32) : FVec Ideal Cert.KernelIdeal.S_ .f32) j
      = (∑ t, pairSum (flatImages z) e t) * Ideal.ofBits .f32 0x33800000#32 := rfl
  rw [h, bits_scale]
  simp only [pairSum, least_eq z e X E hX hE, coe_sum, ← EReal.coe_add, ← EReal.coe_mul]
  congr 1
  generalize hg : (fun n : Fin 16384 => ∑ ch, (E (refNear z e n) ch - X n ch) * (E (refNear z e n) ch - X n ch)) = g
  have hg' : ∀ n, (∑ ch, (E (refNear z e n) ch - X n ch) * (E (refNear z e n) ch - X n ch)) = g n := fun n => congrFun hg n
  simp only [hg']
  have hp : ∀ b : Fin 16, ∑ h : Fin 32, ∑ w : Fin 32, g (pos b h w) = ∑ p : Fin 1024, g (row b p) := fun b => by
    rw [← Fintype.sum_prod_type']
    refine Fintype.sum_equiv (finProdFinEquiv (m := 32) (n := 32)) _ _ fun x => congrArg g (Fin.ext ?_)
    simp only [pos, row, finProdFinEquiv_apply_val]; omega
  have hb : ∑ t : Fin 8, (∑ p, g (row ⟨2 * t.val, by omega⟩ p) + ∑ p, g (row ⟨2 * t.val + 1, by omega⟩ p))
      = ∑ b : Fin 16, ∑ p, g (row b p) := by
    rw [← Fintype.sum_equiv (finProdFinEquiv (m := 8) (n := 2)) (fun x => ∑ p, g (row (finProdFinEquiv x) p)) _ fun _ => rfl,
      Fintype.sum_prod_type]
    refine Finset.sum_congr rfl fun t _ => ?_
    rw [Fin.sum_univ_two]
    have h0 : (⟨2 * t.val, by omega⟩ : Fin 16) = finProdFinEquiv (t, (0 : Fin 2)) := Fin.ext (by rw [finProdFinEquiv_apply_val]; simp)
    have h1 : (⟨2 * t.val + 1, by omega⟩ : Fin 16) = finProdFinEquiv (t, (1 : Fin 2)) := Fin.ext (by rw [finProdFinEquiv_apply_val]; simp; omega)
    rw [h0, h1]
  simp only [hp]
  rw [hb]
  ring

end Real

/-- The kernel's results are the reference's, under the precondition. -/
theorem results_eq (h0 : (Cert.Pre_finite.fn (F := Ideal) z e).1 = fun _ => 1#1) (h1 : (Cert.Pre_finite.fn (F := Ideal) z e).2 = fun _ => 1#1) :
    (shapeCast Cert.KernelIdeal.S16x256x32x32 (quantised (flatImages z) e) Cert.KernelIdeal.Gen.shapeCasts_S16x256x1024_S16x256x32x32
      : FVec Ideal Cert.KernelIdeal.S16x256x32x32 .f32) = outR z e
    ∧ (mulf (shapeCast Cert.KernelIdeal.S_ (total (flatImages z) e) Cert.KernelIdeal.Gen.shapeCasts_S1x1_S_)
      (constant Cert.KernelIdeal.S_ .f32 0x33800000#32) : FVec Ideal Cert.KernelIdeal.S_ .f32) = lossR z e
    ∧ (shapeCast Cert.KernelIdeal.S16384 (numbers (flatImages z) e) Cert.KernelIdeal.Gen.shapeCasts_S16x1x1024_S16384
      : IVec Cert.KernelIdeal.S16384 32) = idxR z e := by
  obtain ⟨hz, he⟩ := real_of_finite z e h0 h1
  choose ZR hZ using hz
  choose E hE using he
  have hX : ∀ n ch, refRow z n ch = ((ZR ⟨n.val / 1024, by omega⟩ ch ⟨n.val / 32 % 32, by omega⟩ ⟨n.val % 32, by omega⟩ : ℝ) : EReal) :=
    fun n ch => hZ _ _ _ _
  exact ⟨out_eq z e _ E hX hE, loss_eq z e _ E hX hE, idx_eq z e _ E hX hE⟩

end Cert.Equal

end
-- ==== Proof.lean ====
/- The certificate's claims, put together: the frames of the three programs, and the equality of the kernel's and the
   reference's results under the precondition that both arguments are finite (Proof/Equal.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelRun
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's results under the precondition, as the reference's expressions of its arguments. -/
theorem kernel_values (m : (ℓ : Loc Cert.KernelIdeal.nD Cert.KernelIdeal.τ Cert.KernelIdeal.sig) → Buf (Elt Ideal) ℓ)
    (hm : Cert.Pre_KernelIdeal_finite m) (c : Dev Cert.KernelIdeal.nD) :
    Cert.KernelIdeal.Value.outK m c = Cert.ReferenceIdeal.Line.outR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
    ∧ Cert.KernelIdeal.Value.lossK m c = Cert.ReferenceIdeal.Line.lossR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
    ∧ Cert.KernelIdeal.Value.idxK m c = Cert.ReferenceIdeal.Line.idxR (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) := by
  unfold Cert.KernelIdeal.Value.outK Cert.KernelIdeal.Value.lossK Cert.KernelIdeal.Value.idxK
  rw [Cert.KernelIdeal.Value.images_eq]
  exact Cert.Equal.results_eq _ _ (hm c).1 (hm c).2

/-- The kernel and the reference end with equal results. -/
theorem algebraic : Cert.algebraic_KernelIdeal_ReferenceIdeal_pre_finite := by
  intro m g m' g' hm hargs
  refine ⟨fun c => Cert.KernelIdeal.Value.outK m c, fun c => Cert.KernelIdeal.Value.lossK m c,
    fun c => Cert.KernelIdeal.Value.idxK m c, ?_, ?_⟩
  · exact (θ_run _ _ _).mono (fun r h c => ⟨(h.1 c).1, (h.1 c).2.1, (h.1 c).2.2, (h.2 c).1, (h.2 c).2⟩)
      (θ_run_and (Cert.KernelIdeal.Value.run m g) (Cert.KernelIdeal.Gen.unchanged m g))
  · refine (θ_run _ _ _).mono (fun r h c => ?_) (Cert.ReferenceIdeal.Line.run m' g')
    obtain ⟨h0, h1, h2, h3, h4⟩ := h.1 c
    obtain ⟨k0, k1, k2⟩ := kernel_values m hm c
    obtain ⟨a0, a1⟩ := hargs c
    rw [a0, a1] at h0 h1 h2
    exact ⟨h0.trans k0.symm, h1.trans k1.symm, h2.trans k2.symm, h3, h4⟩

/-- Every claim of the certificate. -/
theorem claim : Cert.Claim := ⟨Cert.Kernel.Gen.facts, Cert.KernelIdeal.Gen.facts, Cert.ReferenceIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Line.frame m ρ,
  fun m ρ _ => Cert.ReferenceIdeal.Line.frame m ρ,
  trivial,
  algebraic⟩

end Cert.Proof

end
